-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S64x10 : Shape := ⟨2, ![64, 10]⟩
abbrev S64x1 : Shape := ⟨2, ![64, 1]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S64x10 .f32) (main_arg1 : IVec S64x1 32) : IVec S64x1 1 :=
  let main_c : IVec S_ 32 := constantI S_ 32 0#32
  let main_v0 : IVec S64x1 32 := broadcastInDim S64x1 ![] bcast_S_S64x1 main_c
  let main_v1 : IVec S64x1 1 := cmpi .sge main_arg1 main_v0
  main_v1
-- ==== Kernel.lean ====
abbrev S64x10 : Shape := ⟨2, ![64, 10]⟩
abbrev S64x1 : Shape := ⟨2, ![64, 1]⟩

abbrev nBuf : Space → Nat
  | .hbm => 3
  | .vmem => 3
  | .smem => 0
  | _ => 0

abbrev bufTy : (tb : Table) → Fin (tcTables nBuf tb) → BufTy
  | .hbm, ⟨0, _⟩ => ⟨S64x10, .f32⟩
  | .hbm, ⟨1, _⟩ => ⟨S64x1, .i32⟩
  | .hbm, ⟨2, _⟩ => ⟨S64x10, .f32⟩
  | .local _ .vmem, ⟨0, _⟩ => ⟨S64x10, .f32⟩
  | .local _ .vmem, ⟨1, _⟩ => ⟨S64x1, .i32⟩
  | .local _ .vmem, ⟨2, _⟩ => ⟨S64x10, .f32⟩
  | _, _ => ⟨S64x10, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x10 : Shape := ⟨2, ![64, 10]⟩
abbrev S64x1 : Shape := ⟨2, ![64, 1]⟩
abbrev S64 : Shape := ⟨1, ![64]⟩
abbrev S_ : Shape := ⟨0, ![]⟩
abbrev S64x1x1 : Shape := ⟨3, ![64, 1, 1]⟩
abbrev S64x1x2 : Shape := ⟨3, ![64, 1, 2]⟩

abbrev nBuf : Space → Nat
  | .hbm => 29
  | .vmem => 0
  | .smem => 0
  | _ => 0

abbrev bufTy : (tb : Table) → Fin (tcTables nBuf tb) → BufTy
  | .hbm, ⟨0, _⟩ => ⟨S64x10, .f32⟩
  | .hbm, ⟨1, _⟩ => ⟨S64x1, .i32⟩
  | .hbm, ⟨2, _⟩ => ⟨S64, .i32⟩
  | .hbm, ⟨3, _⟩ => ⟨S64x1, .i32⟩
  | .hbm, ⟨4, _⟩ => ⟨S_, .f32⟩
  | .hbm, ⟨5, _⟩ => ⟨S64x10, .f32⟩
  | .hbm, ⟨6, _⟩ => ⟨S_, .i32⟩
  | .hbm, ⟨7, _⟩ => ⟨S64x1, .i32⟩
  | .hbm, ⟨8, _⟩ => ⟨S64x1, .i1⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S64x1, .i32⟩
  | .hbm, ⟨13, _⟩ => ⟨S_, .i32⟩
  | .hbm, ⟨14, _⟩ => ⟨S64x1, .i32⟩
  | .hbm, ⟨15, _⟩ => ⟨S64x1, .i1⟩
  | .hbm, ⟨16, _⟩ => ⟨S_, .i32⟩
  | .hbm, ⟨17, _⟩ => ⟨S64x1, .i32⟩
  | .hbm, ⟨18, _⟩ => ⟨S64x1, .i32⟩
  | .hbm, ⟨19, _⟩ => ⟨S64x1, .i32⟩
  | .hbm, ⟨20, _⟩ => ⟨S64x1x1, .i32⟩
  | .hbm, ⟨21, _⟩ => ⟨S64x1x1, .i32⟩
  | .hbm, ⟨22, _⟩ => ⟨S64x1x2, .i32⟩
  | .hbm, ⟨23, _⟩ => ⟨S_, .f32⟩
  | .hbm, ⟨24, _⟩ => ⟨S64x1, .f32⟩
  | .hbm, ⟨25, _⟩ => ⟨S64x10, .f32⟩
  | .hbm, ⟨26, _⟩ => ⟨S64x10, .f32⟩
  | .hbm, ⟨27, _⟩ => ⟨S64x10, .f32⟩
  | .hbm, ⟨28, _⟩ => ⟨S64x10, .f32⟩
  | _, _ => ⟨S64x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.OneHot.lean ====
/- The reference's one-hot array, read at an index. The scatter's pair of index words for row `r` is the row number and
   the class index, so with no class index negative the array holds 1 where the column is the row's class index and 0
   elsewhere. -/
module

public import proofs.«01_k».proof.Proof.Gen.ReferenceIdeal.Run
public import Idealize.ShloMosaic.Lib.Routing.OpsSet
public import Idealize.ShloMosaic.Lib.IdealHost
public import Idealize.ShloMosaic.Lib.Affine

@[expose] public section

noncomputable section

namespace Cert.Nll

open Idealize.ShloMosaic Idealize.ShloMosaic.ValueIdx
open Cert.ReferenceIdeal Cert.ReferenceIdeal.Gen

/-- The row numbers 0 to 63, as a column. -/
abbrev rowNumbers : IVec S64x1 32 := broadcastInDim S64x1 ![0] bcast_S64_S64x1_0 (iotaInDim S64 32 0)

/-- A column of one word. -/
abbrev splat (w : BitVec 32) : IVec S64x1 32 := broadcastInDim S64x1 ![] bcast_S_S64x1 (constantI S_ 32 w)

/-- An index column with the axis size `n` added to its negative entries. -/
abbrev wrapped (x : IVec S64x1 32) (n : BitVec 32) : IVec S64x1 32 :=
  select (cmpi .slt x (splat 0#32)) (addi x (splat n)) x

/-- The scatter's index words: for each row, the row number and the class index, both wrapped. -/
abbrev words (y : IVec S64x1 32) : IVec S64x1x2 32 :=
  concatenate S64x1x2 2
    [⟨S64x1x1, broadcastInDim S64x1x1 ![0, 1] bcast_S64x1_S64x1x1_0_1 (wrapped rowNumbers 64#32)⟩,
     ⟨S64x1x1, broadcastInDim S64x1x1 ![0, 1] bcast_S64x1_S64x1x1_0_1 (wrapped y 10#32)⟩]
    concatenates_S64x1x1_S64x1x1_S64x1x2_d2

/-- The one-hot array: ones set into zeros at those words. -/
abbrev oneHot (y : IVec S64x1 32) : FVec Ideal S64x10 .f32 :=
  Host.scatter scatter_S64x10_S64x1x2_S64x1_n_01_01_2 (fun _ b => b)
    (broadcastInDim S64x10 ![] bcast_S_S64x10 (constant S_ .f32 0x00000000#32)) (words y)
    (broadcastInDim S64x1 ![] bcast_S_S64x1 (constant S_ .f32 0x3F800000#32))

/-- A word that is not negative is left as it is by the wrap. -/
theorem wrap_nonneg (x a : BitVec 32) (h : 0 ≤ x.toInt) : Scalar.select (IntOp.cmpi .slt x 0#32) a x = x := by
  refine Routing.wrap_of_lt x a ?_
  rw [BitVec.toInt_eq_toNat_cond] at h
  have := x.isLt
  split at h <;> omega

/-- The word of a row or column number, read signed, is that number. -/
theorem toInt_of_lt (n : Nat) (h : n < 64) : (BitVec.ofNat 32 n).toInt = (n : Int) := by
  rw [BitVec.toInt_eq_toNat_cond, BitVec.toNat_ofNat, Nat.mod_eq_of_lt (by omega), if_pos (by omega)]

/-- The first word of row `r` is `r`. -/
theorem words_row (y : IVec S64x1 32) (r : Fin 64) (b : Fin 1) :
    (words y (ix3 r b (0 : Fin 2))).toInt = (r.val : Int) := by
  have hr := toInt_of_lt r.val r.isLt
  have e : words y (ix3 r b (0 : Fin 2))
      = Scalar.select (IntOp.cmpi .slt (BitVec.ofNat 32 r.val) 0#32) (IntOp.addi (BitVec.ofNat 32 r.val) 64#32)
          (BitVec.ofNat 32 r.val) := rfl
  rw [e, wrap_nonneg _ _ (by rw [hr]; omega), hr]

/-- The second word of row `r` is its class index, when that is not negative. -/
theorem words_class (y : IVec S64x1 32) (r : Fin 64) (b : Fin 1) (hy : 0 ≤ (y (ix2 r b)).toInt) :
    words y (ix3 r b (1 : Fin 2)) = y (ix2 r b) := by
  have e : words y (ix3 r b (1 : Fin 2))
      = Scalar.select (IntOp.cmpi .slt (y (ix2 r b)) 0#32) (IntOp.addi (y (ix2 r b)) 10#32) (y (ix2 r b)) := by
    have hb : b = 0 := Subsingleton.elim _ _
    subst hb
    have ei : ∀ j : S64x1.Idx, j = ix2 r (0 : Fin 1) → wrapped y 10#32 j = wrapped y 10#32 (ix2 r (0 : Fin 1)) :=
      fun j h => by rw [h]
    refine ei _ ?_
    funext a
    match a with
    | ⟨0, _⟩ => rfl
    | ⟨1, _⟩ => rfl
  rw [e, wrap_nonneg _ _ hy]

/-- Entry `(r, c)` of the one-hot array is 1 where row `r`'s class index is `c`, and 0 elsewhere. -/
theorem oneHot_apply (y : IVec S64x1 32) (hy : ∀ r : Fin 64, 0 ≤ (y (ix2 r (0 : Fin 1))).toInt) (r : Fin 64) (c : Fin 10) :
    oneHot y (ix2 r c) = if (y (ix2 r (0 : Fin 1))).toInt = (c.val : Int) then (1 : EReal) else 0 := by
  have lands : ∀ a : Fin 64, scatter_S64x10_S64x1x2_S64x1_n_01_01_2.resultIdx? (ix2 a (0 : Fin 1)) (words y) = some (ix2 r c)
      ↔ a = r ∧ (y (ix2 a (0 : Fin 1))).toInt = (c.val : Int) := fun a => by
    refine (Routing.scatter_lands2 scatter_S64x10_S64x1x2_S64x1_n_01_01_2 rfl rfl rfl (words y) a (0 : Fin 1) r c).trans ?_
    rw [words_row, words_class y a 0 (hy a), Fin.ext_iff]
    omega
  split
  · next h =>
    exact Routing.scatter_set_hit _ _ _ _ _ _ (fun _ _ => Ideal.ofBits_one_f32) (ix2 r (0 : Fin 1)) ((lands r).2 ⟨rfl, h⟩)
  · next h =>
    refine (Routing.scatter_set_miss _ _ _ _ _ fun k hk => ?_).trans Ideal.ofBits_zero_f32
    obtain ⟨a, b, rfl⟩ : ∃ (a : Fin 64) (b : Fin 1), k = ix2 a b := ⟨k 0, k 1, eq_ix2 k⟩
    have hb : b = 0 := Subsingleton.elim _ _
    subst hb
    obtain ⟨rfl, hc⟩ := (lands a).1 hk
    exact h hc

end Cert.Nll

end
-- ==== Proof.Loss.lean ====
/- The equation of the two functions over the extended reals: where the column is the row's class index both are
   `-log x`, elsewhere both are 0, whatever `log x` is there. -/
module

public import proofs.«01_k».proof.Proof.OneHot
public import proofs.«01_k».proof.Proof.Gen.KernelIdeal.Value
public import proofs.«01_k».proof.Proof.Gen.Pre_nonneg

@[expose] public section

noncomputable section

namespace Cert.Nll

open Idealize.ShloMosaic Idealize.ShloMosaic.ValueIdx
open Cert.ReferenceIdeal Cert.ReferenceIdeal.Gen

/-- The precondition, read: no class index is negative. -/
theorem nonneg_of_pre (x : FVec Ideal S64x10 .f32) (y : IVec S64x1 32)
    (h : Cert.Pre_nonneg.fn (F := Ideal) x y = fun _ => 1#1) (r : Fin 64) : 0 ≤ (y (ix2 r (0 : Fin 1))).toInt := by
  have e : IntOp.cmpi .sge (y (ix2 r (0 : Fin 1))) 0#32 = 1#1 := congrFun h (ix2 r (0 : Fin 1))
  exact IntOp.cmpi_sge.1 e

/-- A column number below 10 is the class index `w` exactly as integers. -/
theorem column_eq_iff (c : Fin 10) (w : BitVec 32) : BitVec.ofNat 32 c.val = w ↔ w.toInt = (c.val : Int) := by
  have hc := toInt_of_lt c.val (by omega)
  rw [← BitVec.toInt_inj, hc, eq_comm]

/-- The kernel's column numbers, at `(r, c)`: `c`. -/
theorem column_apply (r : Fin 64) (c : Fin 10) :
    iota .tc S64x10 32 [1] Cert.KernelIdeal.Gen.iota_S64x10_d1_w32 (ix2 r c) = BitVec.ofNat 32 c.val := by
  show BitVec.ofNat 32 (0 * 10 + c.val) = _
  rw [Nat.zero_mul, Nat.zero_add]

/-- The class indices broadcast along the columns, at `(r, c)`: row `r`'s class index. -/
theorem label_apply (y : IVec S64x1 32) (r : Fin 64) (c : Fin 10) :
    broadcastTo S64x10 y Cert.KernelIdeal.Gen.broadcasts_S64x1_S64x10 (ix2 r c) = y (ix2 r (0 : Fin 1)) := by
  refine congrArg y (funext fun a => ?_)
  match a with
  | ⟨0, _⟩ => rfl
  | ⟨1, _⟩ => rfl

/-- What the kernel leaves at `(r, c)`: `-log x` where row `r`'s class index is `c`, and 0 elsewhere. -/
theorem kernel_apply (x : FVec Ideal S64x10 .f32) (y : IVec S64x1 32) (r : Fin 64) (c : Fin 10) :
    Cert.KernelIdeal.Value.G2 (F := Ideal) x y (ix2 r c)
      = if (y (ix2 r (0 : Fin 1))).toInt = (c.val : Int) then -Ideal.log (x (ix2 r c)) else (0 : EReal) := by
  have e : Cert.KernelIdeal.Value.G2 (F := Ideal) x y (ix2 r c)
      = if IntOp.cmpi .eq (BitVec.ofNat 32 c.val) (y (ix2 r (0 : Fin 1))) = 1#1
        then Ideal.ofBits .f32 0x00000000#32 - Ideal.log (x (ix2 r c)) else Ideal.ofBits .f32 0x00000000#32 := by
    rw [← label_apply y r c, ← column_apply r c]
    rfl
  rw [e, Ideal.ofBits_zero_f32, zero_sub]
  simp only [IntOp.cmpi_eq, column_eq_iff]

/-- The reference's result of `x` and `y`: minus the product of the one-hot array and the logarithm. -/
abbrev loss (x : FVec Ideal S64x10 .f32) (y : IVec S64x1 32) : FVec Ideal S64x10 .f32 :=
  Host.negf (mulf (oneHot y) (Host.log x))

/-- With no class index negative, the reference's result is the kernel's, at every index. -/
theorem loss_eq (x : FVec Ideal S64x10 .f32) (y : IVec S64x1 32) (hy : ∀ r : Fin 64, 0 ≤ (y (ix2 r (0 : Fin 1))).toInt) :
    loss x y = Cert.KernelIdeal.Value.G2 (F := Ideal) x y := by
  funext i
  obtain ⟨r, c, rfl⟩ : ∃ (r : Fin 64) (c : Fin 10), i = ix2 r c := ⟨i 0, i 1, eq_ix2 i⟩
  have e : loss x y (ix2 r c) = -(oneHot y (ix2 r c) * Ideal.log (x (ix2 r c))) := rfl
  rw [e, oneHot_apply y hy, kernel_apply]
  split
  · rw [one_mul]
  · rw [zero_mul, neg_zero]

end Cert.Nll

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_nonneg
public import proofs.«01_k».proof.Proof.Loss
public import Idealize.ShloMosaic.Lib.Quiescent

@[expose] public section

noncomputable section

namespace Cert.Proof

open Idealize.ShloMosaic Idealize.SL.Sem

/-- The reference terminates from every memory, its arguments unchanged; it has no semaphores. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with equal results, when no class index is negative. -/
theorem algebraic : algebraic_KernelIdeal_ReferenceIdeal_pre_nonneg := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Nll.loss_eq _ _ (Cert.Nll.nonneg_of_pre _ _ (hpre c))

theorem claim : Cert.Claim :=
  ⟨Cert.Kernel.Gen.facts, Cert.KernelIdeal.Gen.facts, Cert.ReferenceIdeal.Gen.facts, Cert.Pre_nonneg.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    (trivial : preserves_Kernel_KernelIdeal),
    algebraic⟩

end Cert.Proof

end
